-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "cutoff" .f32 0x403FBA14#32 ((-(Real.log (13421773 / 268435456)) : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x1024x3 : Shape := ⟨3, ![4, 1024, 3]⟩
abbrev S4x4096x256 : Shape := ⟨3, ![4, 4096, 256]⟩
abbrev S4x1024x256 : Shape := ⟨3, ![4, 1024, 256]⟩
abbrev S256x256 : Shape := ⟨2, ![256, 256]⟩
abbrev S512x256 : Shape := ⟨2, ![512, 256]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x1024x3 : S_.BroadcastsInDim S4x1024x3 (![] : Fin 0 → Fin S4x1024x3.rank)
  reducesTo_S4x1024x3_S_d0_1_2 : S4x1024x3.ReducesTo [0, 1, 2] S_
  bcast_S_S4x4096x256 : S_.BroadcastsInDim S4x4096x256 (![] : Fin 0 → Fin S4x4096x256.rank)
  reducesTo_S4x4096x256_S_d0_1_2 : S4x4096x256.ReducesTo [0, 1, 2] S_
  bcast_S_S4x1024x256 : S_.BroadcastsInDim S4x1024x256 (![] : Fin 0 → Fin S4x1024x256.rank)
  reducesTo_S4x1024x256_S_d0_1_2 : S4x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S512x256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  main_v38

def fn_part1 {F : FTy → Type} [FloatOps F] (main_arg4 : FVec F S256x256 .f32) (main_arg5 : FVec F S256x256 .f32) (main_arg6 : FVec F S256x256 .f32) (main_arg7 : FVec F S512x256 .f32) (main_v13 : IVec S_ 1) (main_v16 : IVec S4x1024x256 1) : IVec S_ 1 :=
  let main_c_5 : IVec S_ 1 := constantI S_ 1 1#1
  let main_v17 : IVec S_ 1 := (fun x v => Host.reduce IntOp.andi x v reducesTo_S4x1024x256_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4x4096x3 .f32) (main_arg1 : FVec F S4x1024x3 .f32) (main_arg2 : FVec F S4x4096x256 .f32) (main_arg3 : FVec F S4x1024x256 .f32) (main_arg4 : FVec F S256x256 .f32) (main_arg5 : FVec F S256x256 .f32) (main_arg6 : FVec F S256x256 .f32) (main_arg7 : FVec F S512x256 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x1024x3 .f32 := Host.absf main_arg1
  let main_cst_0 : FVec F S_ .f32 := constant S_ .f32 0x7F800000#32
  let main_v5 : FVec F S4x1024x3 .f32 := broadcastInDim S4x1024x3 ![] bcast_S_S4x1024x3 main_cst_0
  let main_v6 : IVec S4x1024x3 1 := cmpf .olt main_v4 main_v5
  let main_c_1 : IVec S_ 1 := constantI S_ 1 1#1
  let main_v7 : IVec S_ 1 := (fun x v => Host.reduce IntOp.andi x v reducesTo_S4x1024x3_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S4x1024x256 .f32 := Host.absf main_arg3
  let main_cst_4 : FVec F S_ .f32 := constant S_ .f32 0x7F800000#32
  let main_v15 : FVec F S4x1024x256 .f32 := broadcastInDim S4x1024x256 ![] bcast_S_S4x1024x256 main_cst_4
  let main_v16 : IVec S4x1024x256 1 := cmpf .olt main_v14 main_v15
  fn_part1 (F := F) main_arg4 main_arg5 main_arg6 main_arg7 main_v13 main_v16
-- ==== Kernel.lean ====
abbrev S4x4096x3 : Shape := ⟨3, ![4, 4096, 3]⟩
abbrev S4x1024x3 : Shape := ⟨3, ![4, 1024, 3]⟩
abbrev S4x4096x256 : Shape := ⟨3, ![4, 4096, 256]⟩
abbrev S4x1024x256 : Shape := ⟨3, ![4, 1024, 256]⟩
abbrev S256x256 : Shape := ⟨2, ![256, 256]⟩
abbrev S512x256 : Shape := ⟨2, ![512, 256]⟩
abbrev S1x4096x3 : Shape := ⟨3, ![1, 4096, 3]⟩
abbrev S1x1024x3 : Shape := ⟨3, ![1, 1024, 3]⟩
abbrev S1x4096x256 : Shape := ⟨3, ![1, 4096, 256]⟩
abbrev S1x1024x256 : Shape := ⟨3, ![1, 1024, 256]⟩
abbrev S1024x256 : Shape := ⟨2, ![1024, 256]⟩
abbrev S256x1024 : Shape := ⟨2, ![256, 1024]⟩
abbrev S4096x256 : Shape := ⟨2, ![4096, 256]⟩
abbrev S4096x1024 : Shape := ⟨2, ![4096, 1024]⟩
abbrev S4096x3 : Shape := ⟨2, ![4096, 3]⟩
abbrev S1024x3 : Shape := ⟨2, ![1024, 3]⟩
abbrev S4096 : Shape := ⟨1, ![4096]⟩
abbrev S4096x1 : Shape := ⟨2, ![4096, 1]⟩
abbrev S1024 : Shape := ⟨1, ![1024]⟩
abbrev S1024x1 : Shape := ⟨2, ![1024, 1]⟩
abbrev S4096x5 : Shape := ⟨2, ![4096, 5]⟩
abbrev S1024x5 : Shape := ⟨2, ![1024, 5]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x3, .f32⟩
  | .hbm, ⟨1, _⟩ => ⟨S4x1024x3, .f32⟩
  | .hbm, ⟨2, _⟩ => ⟨S4x4096x256, .f32⟩
  | .hbm, ⟨3, _⟩ => ⟨S4x1024x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S512x256, .f32⟩
  | .hbm, ⟨8, _⟩ => ⟨S4x4096x256, .f32⟩
  | .local _ .vmem, ⟨0, _⟩ => ⟨S1x4096x3, .f32⟩
  | .local _ .vmem, ⟨1, _⟩ => ⟨S1x4096x3, .f32⟩
  | .local _ .vmem, ⟨2, _⟩ => ⟨S1x1024x3, .f32⟩
  | .local _ .vmem, ⟨3, _⟩ => ⟨S1x1024x3, .f32⟩
  | .local _ .vmem, ⟨4, _⟩ => ⟨S1x4096x256, .f32⟩
  | .local _ .vmem, ⟨5, _⟩ => ⟨S1x4096x256, .f32⟩
  | .local _ .vmem, ⟨6, _⟩ => ⟨S1x1024x256, .f32⟩
  | .local _ .vmem, ⟨7, _⟩ => ⟨S1x1024x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S512x256, .f32⟩
  | .local _ .vmem, ⟨12, _⟩ => ⟨S1x4096x256, .f32⟩
  | .local _ .vmem, ⟨13, _⟩ => ⟨S1x4096x256, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "cutoff" => some ((-(Real.log (13421773 / 268435456)) : ℝ) : EReal)
  | _ => none
-- ==== ReferenceIdeal.lean ====
abbrev S4x4096x3 : Shape := ⟨3, ![4, 4096, 3]⟩
abbrev S4x1024x3 : Shape := ⟨3, ![4, 1024, 3]⟩
abbrev S4x4096x256 : Shape := ⟨3, ![4, 4096, 256]⟩
abbrev S4x1024x256 : Shape := ⟨3, ![4, 1024, 256]⟩
abbrev S256x256 : Shape := ⟨2, ![256, 256]⟩
abbrev S512x256 : Shape := ⟨2, ![512, 256]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S4x1024 : Shape := ⟨2, ![4, 1024]⟩
abbrev S4x1x1024 : Shape := ⟨3, ![4, 1, 1024]⟩
abbrev S4x4096x512 : Shape := ⟨3, ![4, 4096, 512]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x1024x3, .f32⟩
  | .hbm, ⟨2, _⟩ => ⟨S4x4096x256, .f32⟩
  | .hbm, ⟨3, _⟩ => ⟨S4x1024x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S512x256, .f32⟩
  | .hbm, ⟨8, _⟩ => ⟨S4x4096x256, .f32⟩
  | .hbm, ⟨9, _⟩ => ⟨S4x1024x256, .f32⟩
  | .hbm, ⟨10, _⟩ => ⟨S4x1024x256, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S4x4096x3, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S4x1024x3, .f32⟩
  | .hbm, ⟨22, _⟩ => ⟨S_, .f32⟩
  | .hbm, ⟨23, _⟩ => ⟨S4x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .i1⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x256, .f32⟩
  | .hbm, ⟨57, _⟩ => ⟨S4x4096x512, .f32⟩
  | .hbm, ⟨58, _⟩ => ⟨S4x4096x256, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Proof.RealMath.lean ====
/-
  The mathematics of the two programs over the real numbers, for one row of the result.

  `kernelRow` is what the kernel computes for one dense point and one output channel, `referenceRow` what the
  reference computes, both written in the order in which the program takes its sums and products;
  `kernelRow_eq_referenceRow` says that they are equal. The four differences:

  * the score: the reference forms the query and the key of every point and then their product, the kernel
    multiplies the two weight matrices first (`kernelScore_eq`);
  * the distance: the reference adds three terms and multiplies by −γ, the kernel has the factor γ inside one sum of
    five products (`kernelDist_eq`); the reference drops a weight `exp (−γ·dist) ≤ t`, the kernel keeps a weight where
    `γ·dist < −log t` (`cut_eq`);
  * the softmax: the reference subtracts a number from every score of the row before it exponentiates, and divides
    every weight; the kernel subtracts nothing and divides the finished sum (`softmax_shift`);
  * the values: the reference projects the weighted sum of the values, the kernel sums the projected values
    (`kernelValue_eq`).
-/
module

public import Idealize.ShloMosaic.PureOps.Ideal
public import Mathlib.Analysis.SpecialFunctions.Log.Basic

@[expose] public section

noncomputable section

namespace Cert.BiBlock

open Finset

/-- The kernel width γ: the 32-bit value of 0.1. -/
def gam : ℝ := 13421773 / 134217728

/-- The threshold t below which a spatial weight is dropped: the 32-bit value of 0.05. -/
def thr : ℝ := 13421773 / 268435456

theorem thr_pos : 0 < thr := by unfold thr; norm_num

/-! ## The kernel's parts -/

/-- The kernel's attention score of a dense point with features `p1` and a sparse point with features `p2`: the product
    of the two weight matrices, scaled, applied to `p2` and then to `p1`. -/
def kernelScore (wq wk : Fin 256 → Fin 256 → ℝ) (p1 p2 : Fin 256 → ℝ) : ℝ :=
  ∑ x, p1 x * ∑ y, (∑ z, wq x z * wk y z) * (1 / 16) * p2 y

/-- The kernel's projected value of a sparse point with features `p2`, in the output channel whose column of the lower
    half of the projection matrix is `w`. -/
def kernelValue (wv : Fin 256 → Fin 256 → ℝ) (w p2 : Fin 256 → ℝ) : ℝ :=
  ∑ x, p2 x * ∑ y, wv x y * w y

/-- The kernel's γ·dist of two points: one sum of five products, [x1, |x1|², 1] · [−2γ·x2, γ, γ·|x2|²]. -/
def kernelDist (x1 x2 : Fin 3 → ℝ) : ℝ :=
  x1 0 * (-(2 * gam) * x2 0) + x1 1 * (-(2 * gam) * x2 1) + x1 2 * (-(2 * gam) * x2 2)
    + (∑ c, x1 c * x1 c) * gam + 1 * (gam * ∑ c, x2 c * x2 c)

/-- The kernel's attention sum of one row: the kept weights times the projected values, divided by the sum of the
    exponentials of the scores. -/
def kernelAttend {ι : Type} [Fintype ι] (s g v : ι → ℝ) : ℝ :=
  (∑ m, (if g m < -Real.log thr then Real.exp (s m - g m) else 0) * v m) / ∑ m, Real.exp (s m)

/-- The kernel's result for one dense point (coordinates `x1`, features `p1`) and one output channel (`w₁` and `w₂` its
    columns of the two halves of the projection matrix). -/
def kernelRow (x1 : Fin 3 → ℝ) (x2 : Fin 1024 → Fin 3 → ℝ) (p1 : Fin 256 → ℝ) (p2 : Fin 1024 → Fin 256 → ℝ)
    (wq wk wv : Fin 256 → Fin 256 → ℝ) (w₁ w₂ : Fin 256 → ℝ) : ℝ :=
  ∑ x, p1 x * w₁ x
    + kernelAttend (fun m => kernelScore wq wk p1 (p2 m)) (fun m => kernelDist x1 (x2 m)) (fun m => kernelValue wv w₂ (p2 m))

/-! ## The reference's parts -/

/-- The reference's attention score: the product of the query and the key, scaled. -/
def refScore (wq wk : Fin 256 → Fin 256 → ℝ) (p1 p2 : Fin 256 → ℝ) : ℝ :=
  (∑ z, (∑ x, p1 x * wq x z) * ∑ y, p2 y * wk y z) * (1 / 16)

/-- The reference's spatial weight of two points, before the threshold: exp (−γ·dist). -/
def refKern (x1 x2 : Fin 3 → ℝ) : ℝ :=
  Real.exp (-gam * (-2 * (∑ c, x1 c * x2 c) + ∑ c, x1 c * x1 c + ∑ c, x2 c * x2 c))

/-- The reference's threshold: a weight of at most t is dropped. -/
def refCut (e : ℝ) : ℝ := if e ≤ thr then 0 else e

/-- The reference's softmax weight of entry `m` of a row of scores, `M` subtracted from every score. -/
def refSoftmax {ι : Type} [Fintype ι] (s : ι → ℝ) (M : ℝ) (m : ι) : ℝ :=
  Real.exp (s m - M) / ∑ k, Real.exp (s k - M)

/-- The reference's result for one dense point and one output channel, `M` the number that its softmax subtracts. -/
def referenceRow (x1 : Fin 3 → ℝ) (x2 : Fin 1024 → Fin 3 → ℝ) (p1 : Fin 256 → ℝ) (p2 : Fin 1024 → Fin 256 → ℝ)
    (wq wk wv : Fin 256 → Fin 256 → ℝ) (w₁ w₂ : Fin 256 → ℝ) (M : ℝ) : ℝ :=
  ∑ x, p1 x * w₁ x
    + ∑ x, (∑ m, refCut (refKern x1 (x2 m)) * refSoftmax (fun m => refScore wq wk p1 (p2 m)) M m
        * ∑ y, p2 m y * wv y x) * w₂ x

/-! ## The equation -/

/-- The two scores are equal. -/
theorem kernelScore_eq (wq wk : Fin 256 → Fin 256 → ℝ) (p1 p2 : Fin 256 → ℝ) :
    kernelScore wq wk p1 p2 = refScore wq wk p1 p2 := by
  unfold kernelScore refScore
  simp only [sum_mul, mul_sum]
  rw [sum_comm' (s := univ) (t := fun _ => univ) (t' := univ) (s' := fun _ => univ) (by simp)]
  have h : ∀ y : Fin 256, (∑ x, ∑ z, p1 x * (wq x z * wk y z * (1 / 16) * p2 y))
      = ∑ z, ∑ x, p1 x * (wq x z * wk y z * (1 / 16) * p2 y) := fun y => sum_comm
  simp only [h]
  rw [sum_comm]
  refine sum_congr rfl fun z _ => ?_
  rw [sum_comm]
  rw [sum_comm]
  refine sum_congr rfl fun y _ => sum_congr rfl fun x _ => ?_
  ring

/-- The kernel's γ·dist is the exponent of the reference's spatial weight, up to sign. -/
theorem kernelDist_eq (x1 x2 : Fin 3 → ℝ) : refKern x1 x2 = Real.exp (-kernelDist x1 x2) := by
  unfold refKern kernelDist
  congr 1
  simp only [Fin.sum_univ_three]
  ring

/-- Dropping the weights `exp (−g) ≤ t` is keeping those with `g < −log t`. -/
theorem cut_eq (g : ℝ) : refCut (Real.exp (-g)) = if g < -Real.log thr then Real.exp (-g) else 0 := by
  unfold refCut
  have h : Real.exp (-g) ≤ thr ↔ ¬ g < -Real.log thr := by
    rw [← Real.le_log_iff_exp_le thr_pos, not_lt, neg_le]
  by_cases hg : g < -Real.log thr
  · rw [if_pos hg, if_neg (by rw [h]; exact not_not.mpr hg)]
  · rw [if_neg hg, if_pos (h.mpr hg)]

/-- A softmax weight does not depend on the number subtracted from every score. -/
theorem softmax_shift {ι : Type} [Fintype ι] (s : ι → ℝ) (M : ℝ) (m : ι) :
    refSoftmax s M m = Real.exp (s m) / ∑ k, Real.exp (s k) := by
  unfold refSoftmax
  have h : ∀ k, Real.exp (s k - M) = Real.exp (s k) * Real.exp (-M) := fun k => by
    rw [← Real.exp_add, sub_eq_add_neg]
  simp only [h, ← sum_mul]
  exact mul_div_mul_right _ _ (Real.exp_pos _).ne'

/-- The kernel's projected value is the projection of the reference's value. -/
theorem kernelValue_eq (wv : Fin 256 → Fin 256 → ℝ) (w p2 : Fin 256 → ℝ) :
    kernelValue wv w p2 = ∑ x, (∑ y, p2 y * wv y x) * w x := by
  unfold kernelValue
  simp only [sum_mul, mul_sum]
  rw [sum_comm]
  refine sum_congr rfl fun y _ => sum_congr rfl fun x _ => ?_
  ring

/-- The kernel's row and the reference's row are equal, whatever number the reference's softmax subtracts. -/
theorem kernelRow_eq_referenceRow (x1 : Fin 3 → ℝ) (x2 : Fin 1024 → Fin 3 → ℝ) (p1 : Fin 256 → ℝ)
    (p2 : Fin 1024 → Fin 256 → ℝ) (wq wk wv : Fin 256 → Fin 256 → ℝ) (w₁ w₂ : Fin 256 → ℝ) (M : ℝ) :
    kernelRow x1 x2 p1 p2 wq wk wv w₁ w₂ = referenceRow x1 x2 p1 p2 wq wk wv w₁ w₂ M := by
  unfold kernelRow referenceRow kernelAttend
  simp only [kernelScore_eq, kernelDist_eq, cut_eq, softmax_shift, kernelValue_eq]
  congr 1
  simp only [sum_mul]
  rw [sum_comm, sum_div]
  refine sum_congr rfl fun m _ => ?_
  rw [mul_div_right_comm, mul_sum]
  refine sum_congr rfl fun x _ => ?_
  rw [← sum_mul]
  split
  · rw [sub_eq_add_neg, Real.exp_add]; ring
  · ring

end Cert.BiBlock

end
-- ==== Proof.Consts.lean ====
/-
  The constants of the two programs as extended reals, each 32-bit pattern read once, and the coercion of real sums.
-/
module

public import proofs.«01_k».proof.KernelIdeal
public import proofs.«01_k».proof.Proof.RealMath
public import Idealize.ShloMosaic.PureOps.Ideal
public import Idealize.ShloMosaic.PureOps.IdealRules

@[expose] public section

noncomputable section

namespace Cert.BiBlock

open Idealize.ShloMosaic

/-- The pattern of 0.1 denotes γ. -/
theorem ofBits_gam : Ideal.ofBits .f32 0x3DCCCCCD#32 = ((gam : ℝ) : EReal) := by
  unfold gam; simp [Ideal.ofBits, Ideal.ieee, -EReal.coe_mul]; norm_num

/-- The pattern of −0.1 denotes −γ. -/
theorem ofBits_neg_gam : Ideal.ofBits .f32 0xBDCCCCCD#32 = ((-gam : ℝ) : EReal) := by
  unfold gam; simp [Ideal.ofBits, Ideal.ieee, -EReal.coe_mul, -EReal.coe_neg]; norm_num

/-- The pattern of −0.2 denotes −2γ. -/
theorem ofBits_neg_two_gam : Ideal.ofBits .f32 0xBE4CCCCD#32 = ((-(2 * gam) : ℝ) : EReal) := by
  unfold gam; simp [Ideal.ofBits, Ideal.ieee, -EReal.coe_mul, -EReal.coe_neg]; norm_num

/-- The pattern of 0.05 denotes t. -/
theorem ofBits_thr : Ideal.ofBits .f32 0x3D4CCCCD#32 = ((thr : ℝ) : EReal) := by
  unfold thr; simp [Ideal.ofBits, Ideal.ieee, -EReal.coe_mul]; norm_num

/-- The pattern of 0.0625 denotes 1/16. -/
theorem ofBits_sixteenth : Ideal.ofBits .f32 0x3D800000#32 = ((1 / 16 : ℝ) : EReal) := by
  simp [Ideal.ofBits, Ideal.ieee, -EReal.coe_mul]; norm_num

/-- The pattern of −2 denotes −2. -/
theorem ofBits_neg_two : Ideal.ofBits .f32 0xC0000000#32 = ((-2 : ℝ) : EReal) := by
  simp [Ideal.ofBits, Ideal.ieee, -EReal.coe_mul, -EReal.coe_neg]; norm_num

/-- The pattern of −∞ denotes the least extended real. -/
theorem ofBits_bot : Ideal.ofBits .f32 0xFF800000#32 = ⊥ := by
  simp [Ideal.ofBits, Ideal.ieee]

/-- The pattern of +∞ denotes the greatest extended real. -/
theorem ofBits_top : Ideal.ofBits .f32 0x7F800000#32 = ⊤ := by
  simp [Ideal.ofBits, Ideal.ieee]

/-- The kernel's named constant denotes −log t. -/
theorem cutoff :
    Named.named (F := Ideal) Cert.KernelIdeal.κ "cutoff" (φ := .f32) 0x403FBA14#32 = ((-Real.log thr : ℝ) : EReal) :=
  IdealRules.named_const.ideal_named_scalar _ _ _ _ rfl

/-- A finite sum of real numbers, taken in the extended reals, is their real sum. -/
theorem sum_coe {ι : Type} [Fintype ι] (f : ι → ℝ) : ∑ i, ((f i : ℝ) : EReal) = ((∑ i, f i : ℝ) : EReal) := by
  classical
  have h : ∀ S : Finset ι, ∑ i ∈ S, ((f i : ℝ) : EReal) = ((∑ i ∈ S, f i : ℝ) : EReal) := fun S => by
    induction S using Finset.induction_on with
    | empty => simp
    | insert a S ha ih => rw [Finset.sum_insert ha, Finset.sum_insert ha, ih, EReal.coe_add]
  exact h _

/-- A quotient of two real numbers, the divisor not zero, is their real quotient. -/
theorem div_coe_coe (x : ℝ) {y : ℝ} (h : y ≠ 0) : Ideal.div (x : EReal) (y : EReal) = ((x / y : ℝ) : EReal) := by
  rw [Ideal.div_coe h, ← EReal.coe_mul, mul_one_div]

/-- The greatest of finitely many, at least one, real numbers, taken in the extended reals from −∞, is a real number. -/
theorem exists_fold_max {n : Nat} (f : Fin (n + 1) → ℝ) :
    ∃ M : ℝ, Finset.univ.fold max (⊥ : EReal) (fun i => ((f i : ℝ) : EReal)) = (M : EReal) := by
  have h : ∀ S : Finset (Fin (n + 1)), (S = ∅ ∧ S.fold max (⊥ : EReal) (fun i => ((f i : ℝ) : EReal)) = ⊥)
      ∨ ∃ M : ℝ, S.fold max (⊥ : EReal) (fun i => ((f i : ℝ) : EReal)) = (M : EReal) := fun S => by
    induction S using Finset.induction_on with
    | empty => exact .inl ⟨rfl, rfl⟩
    | insert a S ha ih =>
      right
      rw [Finset.fold_insert ha]
      rcases ih with ⟨_, e⟩ | ⟨M, e⟩
      · exact ⟨f a, by rw [e, max_bot_right]⟩
      · exact ⟨max (f a) M, by rw [e]; exact (EReal.coe_strictMono.monotone.map_max).symm⟩
  rcases h Finset.univ with ⟨e, _⟩ | h
  · exact absurd (Finset.mem_univ (0 : Fin (n + 1))) (by rw [e]; simp)
  · exact h

/-- An extended real whose absolute value is below +∞ is a real number. -/
theorem eq_coe_of_abs_lt {x : EReal} (h : max x (-x) < ⊤) : x = ((x.toReal : ℝ) : EReal) := by
  refine (EReal.coe_toReal ?_ ?_).symm
  · rintro rfl; simp at h
  · rintro rfl; simp at h

end Cert.BiBlock

end
-- ==== Proof.KernelBlock.lean ====
/-
  What the kernel's body computes for one batch entry, at an index, when every number it reads is real: the stored
  block holds `kernelRow` (Proof/RealMath.lean) of the rows it read.
-/
module

public import proofs.«01_k».proof.Proof.Gen.KernelIdeal.Frame
public import proofs.«01_k».proof.Proof.Consts
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Cert.BiBlock Idealize.ShloMosaic Idealize.ShloMosaic.TcCoe Idealize.SL.Sem

variable {p1 : Fin 4096 → Fin 256 → ℝ} {p2 : Fin 1024 → Fin 256 → ℝ} {x1 : Fin 4096 → Fin 3 → ℝ} {x2 : Fin 1024 → Fin 3 → ℝ}
  {wq wk wv : Fin 256 → Fin 256 → ℝ} {w₁ w₂ : Fin 256 → Fin 256 → ℝ}

/-- The projected values. -/
theorem value_at (v0 : Vec Ideal S1x1024x256 .f32) (v8 v9 : Vec Ideal S256x256 .f32)
    (h0 : ∀ m x, v0 (ix3 0 m x) = ((p2 m x : ℝ) : EReal)) (h8 : ∀ x y, v8 (ix2 x y) = ((wv x y : ℝ) : EReal))
    (h9 : ∀ y d, v9 (ix2 y d) = ((w₂ y d : ℝ) : EReal)) (m : Fin 1024) (d : Fin 256) :
    k0_pay3 v0 v8 v9 (ix2 m d) = ((kernelValue wv (fun y => w₂ y d) (p2 m) : ℝ) : EReal) := by
  unfold k0_pay3 k0_pay2
  pointwise
  simp only [h0, h8, h9, ← EReal.coe_mul, sum_coe]
  rfl

/-- The features of the dense points. -/
theorem feature_at (v12 : Vec Ideal S1x4096x256 .f32) (h12 : ∀ n x, v12 (ix3 0 n x) = ((p1 n x : ℝ) : EReal))
    (n : Fin 4096) (x : Fin 256) : k0_pay4 v12 (ix2 n x) = ((p1 n x : ℝ) : EReal) := by
  unfold k0_pay4
  pointwise
  exact h12 n x

/-- The attention scores. -/
theorem score_at (v0 : Vec Ideal S1x1024x256 .f32) (v2 v3 : Vec Ideal S256x256 .f32) (v12 : Vec Ideal S1x4096x256 .f32)
    (h0 : ∀ m x, v0 (ix3 0 m x) = ((p2 m x : ℝ) : EReal)) (h2 : ∀ x y, v2 (ix2 x y) = ((wq x y : ℝ) : EReal))
    (h3 : ∀ x y, v3 (ix2 x y) = ((wk x y : ℝ) : EReal)) (h12 : ∀ n x, v12 (ix3 0 n x) = ((p1 n x : ℝ) : EReal))
    (n : Fin 4096) (m : Fin 1024) :
    k0_pay5 v0 v2 v3 v12 (ix2 n m) = ((kernelScore wq wk (p1 n) (p2 m) : ℝ) : EReal) := by
  unfold k0_pay5 k0_pay2 k0_pay4
  pointwise
  simp only [h0, h2, h3, h12, ofBits_sixteenth, ← EReal.coe_mul, sum_coe]
  rfl

/-- The squared length of a sparse point. -/
theorem length_at (v17 : Vec Ideal S1x1024x3 .f32) (h17 : ∀ m c, v17 (ix3 0 m c) = ((x2 m c : ℝ) : EReal)) (m : Fin 1024) (o : Fin 1) :
    k0_pay7 v17 (ix2 m o) = ((∑ c, x2 m c * x2 m c : ℝ) : EReal) := by
  unfold k0_pay7 k0_pay6
  pointwise
  simp only [h17, ← EReal.coe_mul, sum_coe]

/-- The row [x1, |x1|², 1] of a dense point, as one function of its five entries. -/
def left (x : Fin 3 → ℝ) (k : Fin 5) : ℝ :=
  if h : k.val < 3 then x ⟨k.val, h⟩ else if k.val - 3 < 1 then ∑ c, x c * x c else 1

/-- The row [x1, |x1|², 1] of a dense point. -/
theorem left_at (v15 : Vec Ideal S1x4096x3 .f32) (h15 : ∀ n c, v15 (ix3 0 n c) = ((x1 n c : ℝ) : EReal)) (n : Fin 4096) (k : Fin 5) :
    k0_pay8 v15 (ix2 n k) = ((left (x1 n) k : ℝ) : EReal) := by
  unfold k0_pay8 left
  pointwise
  simp only [h15, ← EReal.coe_mul, sum_coe]
  split
  · rfl
  · split
    · rfl
    · rfl

/-- A sparse point's coordinates times −2γ. -/
theorem scaled_at (v17 : Vec Ideal S1x1024x3 .f32) (h17 : ∀ m c, v17 (ix3 0 m c) = ((x2 m c : ℝ) : EReal)) (m : Fin 1024) (c : Fin 3) :
    k0_pay9 v17 (ix2 m c) = ((-(2 * gam) * x2 m c : ℝ) : EReal) := by
  unfold k0_pay9 k0_pay6
  pointwise
  rw [h17, ofBits_neg_two_gam, ← EReal.coe_mul]

/-- The sum of the five products is γ·dist. -/
theorem dist_sum (v26 : FVec Ideal S4096x5 .f32) (v28 : FVec Ideal S1024x3 .f32) (v24 : FVec Ideal S1024x1 .f32)
    (h26 : ∀ n k, v26 (ix2 n k) = ((left (x1 n) k : ℝ) : EReal))
    (h28 : ∀ m c, v28 (ix2 m c) = ((-(2 * gam) * x2 m c : ℝ) : EReal))
    (h24 : ∀ m o, v24 (ix2 m o) = ((∑ c, x2 m c * x2 m c : ℝ) : EReal)) (n : Fin 4096) (m : Fin 1024) :
    (∑ k : Fin 5, v26 (ix2 n k) * (if h : k.val < 3 then v28 (ix2 m ⟨k.val, h⟩)
      else if h' : k.val - 3 < 1 then Ideal.ofBits .f32 0x3DCCCCCD#32
      else Ideal.ofBits .f32 0x3DCCCCCD#32 * v24 (ix2 m ⟨k.val - 3 - 1, by have := k.isLt; omega⟩) : EReal))
      = ((kernelDist (x1 n) (x2 m) : ℝ) : EReal) := by
  simp only [h26, h28, h24, ofBits_gam, ← EReal.coe_mul]
  rw [Fin.sum_univ_five]
  show ((x1 n 0 : ℝ) : EReal) * ((-(2 * gam) * x2 m 0 : ℝ) : EReal) + ((x1 n 1 : ℝ) : EReal) * ((-(2 * gam) * x2 m 1 : ℝ) : EReal)
    + ((x1 n 2 : ℝ) : EReal) * ((-(2 * gam) * x2 m 2 : ℝ) : EReal)
    + ((∑ c, x1 n c * x1 n c : ℝ) : EReal) * ((gam : ℝ) : EReal)
    + ((1 : ℝ) : EReal) * ((gam * ∑ c, x2 m c * x2 m c : ℝ) : EReal) = _
  simp only [← EReal.coe_mul, ← EReal.coe_add]
  rfl

/-- The stored result at an index, from the parts. -/
theorem result_at (v11 : FVec Ideal S1024x256 .f32) (v13 : FVec Ideal S4096x256 .f32) (v14 : FVec Ideal S4096x1024 .f32)
    (v24 : FVec Ideal S1024x1 .f32) (v26 : FVec Ideal S4096x5 .f32) (v28 : FVec Ideal S1024x3 .f32) (v44 : Vec Ideal S256x256 .f32)
    {s : Fin 4096 → Fin 1024 → ℝ} {v : Fin 1024 → Fin 256 → ℝ}
    (h11 : ∀ m d, v11 (ix2 m d) = ((v m d : ℝ) : EReal)) (h13 : ∀ n x, v13 (ix2 n x) = ((p1 n x : ℝ) : EReal))
    (h14 : ∀ n m, v14 (ix2 n m) = ((s n m : ℝ) : EReal))
    (h24 : ∀ m o, v24 (ix2 m o) = ((∑ c, x2 m c * x2 m c : ℝ) : EReal))
    (h26 : ∀ n k, v26 (ix2 n k) = ((left (x1 n) k : ℝ) : EReal))
    (h28 : ∀ m c, v28 (ix2 m c) = ((-(2 * gam) * x2 m c : ℝ) : EReal))
    (h44 : ∀ x d, v44 (ix2 x d) = ((w₁ x d : ℝ) : EReal)) (n : Fin 4096) (d : Fin 256) :
    k0_pay1 v11 v13 v14 v24 v26 v28 v44 (ix3 0 n d)
      = ((∑ x, p1 n x * w₁ x d + kernelAttend (s n) (fun m => kernelDist (x1 n) (x2 m)) (fun m => v m d) : ℝ) : EReal) := by
  unfold k0_pay1
  pointwise
  have hd := dist_sum v26 v28 v24 h26 h28 h24 n
  simp only [hd, cutoff, h11, h13, h14, h44, ← EReal.coe_sub, Ideal.exp_coe, EReal.coe_lt_coe_iff, ← EReal.coe_mul, sum_coe]
  have hif : ∀ m : Fin 1024, (if kernelDist (x1 n) (x2 m) < -Real.log thr then ((Real.exp (s n m - kernelDist (x1 n) (x2 m)) : ℝ) : EReal) else 0)
      = ((if kernelDist (x1 n) (x2 m) < -Real.log thr then Real.exp (s n m - kernelDist (x1 n) (x2 m)) else 0 : ℝ) : EReal) := fun m => by
    split <;> rfl
  simp only [hif, ← EReal.coe_mul, sum_coe]
  have hpos : (0 : ℝ) < ∑ m, Real.exp (s n m) := Finset.sum_pos (fun m _ => Real.exp_pos _) ⟨0, Finset.mem_univ _⟩
  rw [div_coe_coe _ hpos.ne', ← EReal.coe_add]
  rfl

end Cert.KernelIdeal.Block

end
-- ==== Proof.KernelArray.lean ====
/-
  What the kernel's result array holds after the run, when every entry of every argument is real: `kernelRow`
  (Proof/RealMath.lean) of the rows of the arguments. Grid point t reads batch entry t of the four point arrays and the
  whole of the four weight matrices, and writes batch entry t of the result.
-/
module

public import proofs.«01_k».proof.Proof.Gen.KernelIdeal.Value
public import proofs.«01_k».proof.Proof.KernelBlock

@[expose] public section

set_option maxRecDepth 16384

noncomputable section

namespace Cert.KernelIdeal.Arr

open Cert.KernelIdeal Cert.KernelIdeal.Gen Cert.KernelIdeal.Block Cert.BiBlock
open Idealize.ShloMosaic Idealize.ShloMosaic.TcCoe Idealize.SL.Sem

variable (m : (ℓ : Loc nD τ sig) → Buf (Elt Ideal) ℓ)

/-- Grid point `t` is at block (t, 0, 0) of the four point arrays and of the result, and at block (0, 0) of the four
    weight matrices. -/
theorem idx : ∀ t : Fin cfg0.N,
    win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![0, 0] ∧ win0_8.index t = ![t.val, 0, 0] := by decide +kernel

theorem t_lt (t : Fin cfg0.N) : t.val < 4 := by have h := t.isLt; have hN : cfg0.N = 4 := N_0; omega

/-! ## The blocks that a grid point reads -/

/-- A dense point's coordinates. -/
theorem blk_x1 (c : Dev nD) (t : Fin cfg0.N) (n : Fin 4096) (k : Fin 3) :
    (iblk m c 0 t : FVec Ideal S1x4096x3 .f32) (ix3 0 n k) = (m (c.tc.loc main_arg0) : FVec Ideal S4x4096x3 .f32) (ix3 ⟨t.val, t_lt t⟩ n k) := by
  blk_ext [iblk, V, idx t]

/-- A sparse point's coordinates. -/
theorem blk_x2 (c : Dev nD) (t : Fin cfg0.N) (n : Fin 1024) (k : Fin 3) :
    (iblk m c 1 t : FVec Ideal S1x1024x3 .f32) (ix3 0 n k) = (m (c.tc.loc main_arg1) : FVec Ideal S4x1024x3 .f32) (ix3 ⟨t.val, t_lt t⟩ n k) := by
  blk_ext [iblk, V, idx t]

/-- A dense point's features. -/
theorem blk_p1 (c : Dev nD) (t : Fin cfg0.N) (n : Fin 4096) (k : Fin 256) :
    (iblk m c 2 t : FVec Ideal S1x4096x256 .f32) (ix3 0 n k) = (m (c.tc.loc main_arg2) : FVec Ideal S4x4096x256 .f32) (ix3 ⟨t.val, t_lt t⟩ n k) := by
  blk_ext [iblk, V, idx t]

/-- A sparse point's features. -/
theorem blk_p2 (c : Dev nD) (t : Fin cfg0.N) (n : Fin 1024) (k : Fin 256) :
    (iblk m c 3 t : FVec Ideal S1x1024x256 .f32) (ix3 0 n k) = (m (c.tc.loc main_arg3) : FVec Ideal S4x1024x256 .f32) (ix3 ⟨t.val, t_lt t⟩ n k) := by
  blk_ext [iblk, V, idx t]

/-- The query weights. -/
theorem blk_wq (c : Dev nD) (t : Fin cfg0.N) (x y : Fin 256) :
    (iblk m c 4 t : FVec Ideal S256x256 .f32) (ix2 x y) = (m (c.tc.loc main_arg4) : FVec Ideal S256x256 .f32) (ix2 x y) := by
  blk_ext [iblk, V, idx t]

/-- The key weights. -/
theorem blk_wk (c : Dev nD) (t : Fin cfg0.N) (x y : Fin 256) :
    (iblk m c 5 t : FVec Ideal S256x256 .f32) (ix2 x y) = (m (c.tc.loc main_arg5) : FVec Ideal S256x256 .f32) (ix2 x y) := by
  blk_ext [iblk, V, idx t]

/-- The value weights. -/
theorem blk_wv (c : Dev nD) (t : Fin cfg0.N) (x y : Fin 256) :
    (iblk m c 6 t : FVec Ideal S256x256 .f32) (ix2 x y) = (m (c.tc.loc main_arg6) : FVec Ideal S256x256 .f32) (ix2 x y) := by
  blk_ext [iblk, V, idx t]

/-- The projection weights. -/
theorem blk_wp (c : Dev nD) (t : Fin cfg0.N) (x : Fin 512) (y : Fin 256) :
    (iblk m c 7 t : FVec Ideal S512x256 .f32) (ix2 x y) = (m (c.tc.loc main_arg7) : FVec Ideal S512x256 .f32) (ix2 x y) := by
  blk_ext [iblk, V, idx t]

/-! ## The body's output block -/

/-- The block that the body leaves, at an index, when what it reads is real. -/
theorem out_at (x0 : Vec Ideal S1x4096x3 .f32) (x1 : Vec Ideal S1x1024x3 .f32) (x2 : Vec Ideal S1x4096x256 .f32)
    (x3 : Vec Ideal S1x1024x256 .f32) (x4 x5 x6 : Vec Ideal S256x256 .f32) (x7 : Vec Ideal S512x256 .f32)
    {X1 : Fin 4096 → Fin 3 → ℝ} {X2 : Fin 1024 → Fin 3 → ℝ} {P1 : Fin 4096 → Fin 256 → ℝ} {P2 : Fin 1024 → Fin 256 → ℝ}
    {Wq Wk Wv : Fin 256 → Fin 256 → ℝ} {Wp : Fin 512 → Fin 256 → ℝ}
    (h0 : ∀ n k, x0 (ix3 0 n k) = ((X1 n k : ℝ) : EReal)) (h1 : ∀ n k, x1 (ix3 0 n k) = ((X2 n k : ℝ) : EReal))
    (h2 : ∀ n k, x2 (ix3 0 n k) = ((P1 n k : ℝ) : EReal)) (h3 : ∀ n k, x3 (ix3 0 n k) = ((P2 n k : ℝ) : EReal))
    (h4 : ∀ x y, x4 (ix2 x y) = ((Wq x y : ℝ) : EReal)) (h5 : ∀ x y, x5 (ix2 x y) = ((Wk x y : ℝ) : EReal))
    (h6 : ∀ x y, x6 (ix2 x y) = ((Wv x y : ℝ) : EReal)) (h7 : ∀ x y, x7 (ix2 x y) = ((Wp x y : ℝ) : EReal))
    (n : Fin 4096) (d : Fin 256) :
    out0_8 x0 x1 x2 x3 x4 x5 x6 x7 (ix3 0 n d)
      = ((kernelRow (X1 n) X2 (P1 n) P2 Wq Wk Wv (fun x => Wp ⟨x.val, by omega⟩ d) (fun x => Wp ⟨256 + x.val, by omega⟩ d) : ℝ) : EReal) := by
  frame_out
  have hlo : ∀ x d, (View.ld x7 r0_6 : Vec Ideal S256x256 .f32) (ix2 x d) = ((Wp ⟨x.val, by omega⟩ d : ℝ) : EReal) := fun x d => by
    pointwise
    exact h7 _ _
  have hhi : ∀ x d, (View.ld x7 r0_2 : Vec Ideal S256x256 .f32) (ix2 x d) = ((Wp ⟨256 + x.val, by omega⟩ d : ℝ) : EReal) := fun x d => by
    pointwise
    exact h7 _ _
  exact result_at _ _ _ _ _ _ _ (value_at _ _ _ h3 h6 hhi) (feature_at _ h2) (score_at _ _ _ _ h3 h4 h5 h2) (length_at _ h1)
    (left_at _ h0) (scaled_at _ h1) hlo n d

/-! ## The result array -/

/-- The kernel's result as a function of eight real arrays. -/
def rows (X1 : Fin 4 → Fin 4096 → Fin 3 → ℝ) (X2 : Fin 4 → Fin 1024 → Fin 3 → ℝ)
    (P1 : Fin 4 → Fin 4096 → Fin 256 → ℝ) (P2 : Fin 4 → Fin 1024 → Fin 256 → ℝ) (Wq Wk Wv : Fin 256 → Fin 256 → ℝ)
    (Wp : Fin 512 → Fin 256 → ℝ) : FVec Ideal S4x4096x256 .f32 := fun i =>
  ((kernelRow (X1 (i 0) (i 1)) (X2 (i 0)) (P1 (i 0) (i 1)) (P2 (i 0)) Wq Wk Wv
    (fun x => Wp ⟨x.val, by omega⟩ (i 2)) (fun x => Wp ⟨256 + x.val, by omega⟩ (i 2)) : ℝ) : EReal)

/-- The kernel's result array after the run, when the entries of the arguments are real. -/
theorem array_eq (c : Dev nD) {X1 : Fin 4 → Fin 4096 → Fin 3 → ℝ} {X2 : Fin 4 → Fin 1024 → Fin 3 → ℝ}
    {P1 : Fin 4 → Fin 4096 → Fin 256 → ℝ} {P2 : Fin 4 → Fin 1024 → Fin 256 → ℝ} {Wq Wk Wv : Fin 256 → Fin 256 → ℝ}
    {Wp : Fin 512 → Fin 256 → ℝ}
    (h0 : ∀ b n k, (m (c.tc.loc main_arg0) : FVec Ideal S4x4096x3 .f32) (ix3 b n k) = ((X1 b n k : ℝ) : EReal))
    (h1 : ∀ b n k, (m (c.tc.loc main_arg1) : FVec Ideal S4x1024x3 .f32) (ix3 b n k) = ((X2 b n k : ℝ) : EReal))
    (h2 : ∀ b n k, (m (c.tc.loc main_arg2) : FVec Ideal S4x4096x256 .f32) (ix3 b n k) = ((P1 b n k : ℝ) : EReal))
    (h3 : ∀ b n k, (m (c.tc.loc main_arg3) : FVec Ideal S4x1024x256 .f32) (ix3 b n k) = ((P2 b n k : ℝ) : EReal))
    (h4 : ∀ x y, (m (c.tc.loc main_arg4) : FVec Ideal S256x256 .f32) (ix2 x y) = ((Wq x y : ℝ) : EReal))
    (h5 : ∀ x y, (m (c.tc.loc main_arg5) : FVec Ideal S256x256 .f32) (ix2 x y) = ((Wk x y : ℝ) : EReal))
    (h6 : ∀ x y, (m (c.tc.loc main_arg6) : FVec Ideal S256x256 .f32) (ix2 x y) = ((Wv x y : ℝ) : EReal))
    (h7 : ∀ x y, (m (c.tc.loc main_arg7) : FVec Ideal S512x256 .f32) (ix2 x y) = ((Wp x y : ℝ) : EReal)) :
    (dats m 0 c).arrAt 8 cfg0.N = rows X1 X2 P1 P2 Wq Wk Wv Wp := by
  refine (dats m 0 c).arrAt_eq_of_covers 8 _ (by decide +kernel) fun t hf y => ?_
  blk_simp
  rw [after0_8]
  have key : ∀ (n : Fin 4096) (d : Fin 256) (y : S1x4096x256.Idx), y = ix3 0 n d →
      out0_8 (iblk m c 0 t) (iblk m c 1 t) (iblk m c 2 t) (iblk m c 3 t) (iblk m c 4 t) (iblk m c 5 t) (iblk m c 6 t) (iblk m c 7 t) y
        = rows X1 X2 P1 P2 Wq Wk Wv Wp ((win0_8.blk t).view.emb y) := fun n d y hy => by
    have he : ((win0_8.blk t).view.emb y : S4x4096x256.Idx) = ix3 ⟨t.val, t_lt t⟩ n d := by
      subst hy
      blk_ext [idx t]
    rw [he, hy]
    exact out_at _ _ _ _ _ _ _ _ (fun n k => (blk_x1 m c t n k).trans (h0 _ n k)) (fun n k => (blk_x2 m c t n k).trans (h1 _ n k))
      (fun n k => (blk_p1 m c t n k).trans (h2 _ n k)) (fun n k => (blk_p2 m c t n k).trans (h3 _ n k))
      (fun x y => (blk_wq m c t x y).trans (h4 x y)) (fun x y => (blk_wk m c t x y).trans (h5 x y))
      (fun x y => (blk_wv m c t x y).trans (h6 x y)) (fun x y => (blk_wp m c t x y).trans (h7 x y)) n d
  have hy0 : ∀ y : S1x4096x256.Idx, y = ix3 0 (y 1) (y 2) := fun y =>
    (eq_ix3 y).trans (congrArg (fun a : Fin 1 => ix3 a (y 1) (y 2)) (Subsingleton.elim (α := Fin 1) (y 0) 0))
  exact key (y 1) (y 2) y (hy0 y)

end Cert.KernelIdeal.Arr

end
-- ==== Proof.ReferenceValue.lean ====
/-
  What the reference computes, at an index, when every entry of every argument is real: `referenceRow`
  (Proof/RealMath.lean) of the rows of its arguments. The reference's one composed term is cut into its stages first.
-/
module

public import proofs.«01_k».proof.Proof.Gen.ReferenceIdeal.Run
public import proofs.«01_k».proof.Proof.Consts
public import Idealize.ShloMosaic.Lib.Pointwise

@[expose] public section

set_option maxRecDepth 16384

noncomputable section

namespace Cert.ReferenceIdeal.RefValue

open Cert.ReferenceIdeal Cert.ReferenceIdeal.Gen Cert.ReferenceIdeal.Value Cert.BiBlock Idealize.ShloMosaic Idealize.ShloMosaic.TcCoe Idealize.SL.Sem

/-! ## The stages -/

/-- The scaled attention scores. -/
def score (p1 : FVec Ideal S4x4096x256 .f32) (p2 : FVec Ideal S4x1024x256 .f32) (wq wk : FVec Ideal S256x256 .f32) :
    FVec Ideal S4x4096x1024 .f32 :=
  mulf (Host.dotGeneral dot_S4x4096x256_S4x1024x256_S4x4096x1024_2_2_1_1_0_0 none
      (Host.dotGeneral dot_S4x4096x256_S256x256_S4x4096x256_2_0_01_1_n_n none p1 wq)
      (Host.dotGeneral dot_S4x1024x256_S256x256_S4x1024x256_2_0_01_1_n_n none p2 wk))
    (broadcastInDim S4x4096x1024 ![] bcast_S_S4x4096x1024 (constant S_ .f32 0x3D800000#32))

/-- The spatial weights before the threshold. -/
def kern (x1 : FVec Ideal S4x4096x3 .f32) (x2 : FVec Ideal S4x1024x3 .f32) : FVec Ideal S4x4096x1024 .f32 :=
  Host.exp (mulf (broadcastInDim S4x4096x1024 ![] bcast_S_S4x4096x1024 (constant S_ .f32 0xBDCCCCCD#32))
    (addf (addf (mulf (broadcastInDim S4x4096x1024 ![] bcast_S_S4x4096x1024 (constant S_ .f32 0xC0000000#32))
          (Host.dotGeneral dot_S4x4096x3_S4x1024x3_S4x4096x1024_2_2_1_1_0_0 none x1 x2))
        (broadcastInDim S4x4096x1024 ![0, 1, 2] bcast_S4x4096x1_S4x4096x1024_0_1_2
          (broadcastInDim S4x4096x1 ![0, 1] bcast_S4x4096_S4x4096x1_0_1
            (Host.reduceAdd (mulf x1 x1) (constant S_ .f32 0x00000000#32) reducesTo_S4x4096x3_S4x4096_d2 h_S_))))
      (broadcastInDim S4x4096x1024 ![0, 1, 2] bcast_S4x1x1024_S4x4096x1024_0_1_2
        (broadcastInDim S4x1x1024 ![0, 2] bcast_S4x1024_S4x1x1024_0_2
          (Host.reduceAdd (mulf x2 x2) (constant S_ .f32 0x00000000#32) reducesTo_S4x1024x3_S4x1024_d2 h_S_)))))

/-- The spatial weights after the threshold. -/
def cutKern (e : FVec Ideal S4x4096x1024 .f32) : FVec Ideal S4x4096x1024 .f32 :=
  select (cmpf .ole e (broadcastInDim S4x4096x1024 ![] bcast_S_S4x4096x1024 (constant S_ .f32 0x3D4CCCCD#32)))
    (broadcastInDim S4x4096x1024 ![] bcast_S_S4x4096x1024 (constant S_ .f32 0x00000000#32)) e

/-- The greatest score of every row, from −∞. -/
def foldMax (s : FVec Ideal S4x4096x1024 .f32) : FVec Ideal S4x4096 .f32 :=
  Host.reduce FloatOps.maximumf s (constant S_ .f32 0xFF800000#32) reducesTo_S4x4096x1024_S4x4096_d2 h_S_

/-- The number the softmax subtracts from every score of a row. -/
def rowMax (M : FVec Ideal S4x4096 .f32) : FVec Ideal S4x4096 .f32 :=
  maximumf (broadcastInDim S4x4096 ![] bcast_S_S4x4096 (constant S_ .f32 0xFF800000#32)) M

/-- The exponentials of the scores, the row's number subtracted. -/
def shiftExp (s : FVec Ideal S4x4096x1024 .f32) (M : FVec Ideal S4x4096 .f32) : FVec Ideal S4x4096x1024 .f32 :=
  Host.exp (subf s (broadcastInDim S4x4096x1024 ![0, 1, 2] bcast_S4x4096x1_S4x4096x1024_0_1_2
    (broadcastInDim S4x4096x1 ![0, 1] bcast_S4x4096_S4x4096x1_0_1 M)))

/-- Every entry divided by the sum of its row. -/
def normalize (e : FVec Ideal S4x4096x1024 .f32) : FVec Ideal S4x4096x1024 .f32 :=
  Host.divf e (broadcastInDim S4x4096x1024 ![0, 1, 2] bcast_S4x4096x1_S4x4096x1024_0_1_2
    (broadcastInDim S4x4096x1 ![0, 1] bcast_S4x4096_S4x4096x1_0_1
      (Host.reduceAdd e (constant S_ .f32 0x00000000#32) reducesTo_S4x4096x1024_S4x4096_d2 h_S_)))

/-- The weighted sums of the values beside the features of the dense points, projected. -/
def project (a1 a2 : FVec Ideal S4x4096x1024 .f32) (p1 : FVec Ideal S4x4096x256 .f32) (p2 : FVec Ideal S4x1024x256 .f32)
    (wv : FVec Ideal S256x256 .f32) (wp : FVec Ideal S512x256 .f32) : FVec Ideal S4x4096x256 .f32 :=
  Host.dotGeneral dot_S4x4096x512_S512x256_S4x4096x256_2_0_01_1_n_n none
    (concatenate S4x4096x512 2 [⟨S4x4096x256, p1⟩,
      ⟨S4x4096x256, Host.dotGeneral dot_S4x4096x1024_S4x1024x256_S4x4096x256_2_1_1_2_0_0 none (mulf a1 a2)
        (Host.dotGeneral dot_S4x1024x256_S256x256_S4x1024x256_2_0_01_1_n_n none p2 wv)⟩]
      concatenates_S4x4096x256_S4x4096x256_S4x4096x512_d2) wp

/-- The reference's result array as a function of its eight arguments. -/
def result (x1 : FVec Ideal S4x4096x3 .f32) (x2 : FVec Ideal S4x1024x3 .f32) (p1 : FVec Ideal S4x4096x256 .f32)
    (p2 : FVec Ideal S4x1024x256 .f32) (wq wk wv : FVec Ideal S256x256 .f32) (wp : FVec Ideal S512x256 .f32) :
    FVec Ideal S4x4096x256 .f32 :=
  project (cutKern (kern x1 x2)) (normalize (shiftExp (score p1 p2 wq wk) (rowMax (foldMax (score p1 p2 wq wk))))) p1 p2 wv wp

/-- The term the reference's run ends with is `result` of the argument arrays. -/
theorem res_eq (m : (ℓ : Loc nD τ sig) → Buf (Elt Ideal) ℓ) (c : Dev nD) :
    res_out0 m c = result (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) := by
  unfold res_out0 res_main_v39
  rfl

/-! ## The stages at an index -/

theorem score_at {p1 : FVec Ideal S4x4096x256 .f32} {p2 : FVec Ideal S4x1024x256 .f32} {wq wk : FVec Ideal S256x256 .f32}
    {P1 : Fin 4 → Fin 4096 → Fin 256 → ℝ} {P2 : Fin 4 → Fin 1024 → Fin 256 → ℝ} {Wq Wk : Fin 256 → Fin 256 → ℝ}
    (h1 : ∀ b n x, p1 (ix3 b n x) = ((P1 b n x : ℝ) : EReal)) (h2 : ∀ b m x, p2 (ix3 b m x) = ((P2 b m x : ℝ) : EReal))
    (hq : ∀ x y, wq (ix2 x y) = ((Wq x y : ℝ) : EReal)) (hk : ∀ x y, wk (ix2 x y) = ((Wk x y : ℝ) : EReal))
    (b : Fin 4) (n : Fin 4096) (m : Fin 1024) :
    score p1 p2 wq wk (ix3 b n m) = ((refScore Wq Wk (P1 b n) (P2 b m) : ℝ) : EReal) := by
  unfold score
  pointwise
  simp only [h1, h2, hq, hk, ofBits_sixteenth, ← EReal.coe_mul, sum_coe]
  rfl

theorem kern_at {x1 : FVec Ideal S4x4096x3 .f32} {x2 : FVec Ideal S4x1024x3 .f32}
    {X1 : Fin 4 → Fin 4096 → Fin 3 → ℝ} {X2 : Fin 4 → Fin 1024 → Fin 3 → ℝ}
    (h1 : ∀ b n c, x1 (ix3 b n c) = ((X1 b n c : ℝ) : EReal)) (h2 : ∀ b m c, x2 (ix3 b m c) = ((X2 b m c : ℝ) : EReal))
    (b : Fin 4) (n : Fin 4096) (m : Fin 1024) :
    kern x1 x2 (ix3 b n m) = ((refKern (X1 b n) (X2 b m) : ℝ) : EReal) := by
  unfold kern
  pointwise
  simp only [h1, h2, ofBits_neg_gam, ofBits_neg_two, ← EReal.coe_mul, ← EReal.coe_add, sum_coe, Ideal.exp_coe]
  rfl

theorem cutKern_at {e : FVec Ideal S4x4096x1024 .f32} {E : Fin 4 → Fin 4096 → Fin 1024 → ℝ}
    (h : ∀ b n m, e (ix3 b n m) = ((E b n m : ℝ) : EReal)) (b : Fin 4) (n : Fin 4096) (m : Fin 1024) :
    cutKern e (ix3 b n m) = ((refCut (E b n m) : ℝ) : EReal) := by
  unfold cutKern refCut
  pointwise
  simp only [h, ofBits_thr, EReal.coe_le_coe_iff]
  split <;> rfl

/-- The greatest score of a row of real scores is a real number. -/
theorem foldMax_at {s : FVec Ideal S4x4096x1024 .f32} {S : Fin 4 → Fin 4096 → Fin 1024 → ℝ}
    (h : ∀ b n m, s (ix3 b n m) = ((S b n m : ℝ) : EReal)) (j : S4x4096.Idx) :
    ∃ M : ℝ, foldMax s j = (M : EReal) := by
  have hr : S4x4096x1024.Reduces [2] S4x4096 := by decide
  have hi : ∀ i, s i = ((S (i 0) (i 1) (i 2) : ℝ) : EReal) := fun i =>
    (congrArg s (eq_ix3 i)).trans (h _ _ _)
  obtain ⟨M, hM⟩ := exists_fold_max (n := 1023) fun k => S (hr.lift j k 0) (hr.lift j k 1) (hr.lift j k 2)
  refine ⟨M, ?_⟩
  rw [← hM]
  unfold foldMax
  refine (Host.reduce_eq_fold_single _ s _ _ hr _ j).trans ?_
  have h0 : (constant S_ .f32 0xFF800000#32 : FVec Ideal S_ .f32) (Shape.Idx.first h_S_) = ⊥ := ofBits_bot
  rw [h0]
  refine Finset.fold_congr fun k _ => ?_
  exact hi _

theorem rowMax_at {M : FVec Ideal S4x4096 .f32} (b : Fin 4) (n : Fin 4096) : rowMax M (ix2 b n) = M (ix2 b n) := by
  unfold rowMax
  pointwise
  rw [ofBits_bot, max_bot_left]

theorem shiftExp_at {s : FVec Ideal S4x4096x1024 .f32} {M : FVec Ideal S4x4096 .f32} {S : Fin 4 → Fin 4096 → Fin 1024 → ℝ}
    {R : Fin 4 → Fin 4096 → ℝ} (h : ∀ b n m, s (ix3 b n m) = ((S b n m : ℝ) : EReal)) (hM : ∀ b n, M (ix2 b n) = ((R b n : ℝ) : EReal))
    (b : Fin 4) (n : Fin 4096) (m : Fin 1024) :
    shiftExp s M (ix3 b n m) = ((Real.exp (S b n m - R b n) : ℝ) : EReal) := by
  unfold shiftExp
  pointwise
  rw [h, hM, ← EReal.coe_sub, Ideal.exp_coe]

theorem normalize_at {e : FVec Ideal S4x4096x1024 .f32} {S : Fin 4 → Fin 4096 → Fin 1024 → ℝ} {R : Fin 4 → Fin 4096 → ℝ}
    (h : ∀ b n m, e (ix3 b n m) = ((Real.exp (S b n m - R b n) : ℝ) : EReal)) (b : Fin 4) (n : Fin 4096) (m : Fin 1024) :
    normalize e (ix3 b n m) = ((refSoftmax (S b n) (R b n) m : ℝ) : EReal) := by
  unfold normalize
  pointwise
  have hpos : (0 : ℝ) < ∑ k, Real.exp (S b n k - R b n) := Finset.sum_pos (fun k _ => Real.exp_pos _) ⟨0, Finset.mem_univ _⟩
  simp only [h, sum_coe]
  exact div_coe_coe _ hpos.ne'

theorem project_at {a1 a2 : FVec Ideal S4x4096x1024 .f32} {p1 : FVec Ideal S4x4096x256 .f32} {p2 : FVec Ideal S4x1024x256 .f32}
    {wv : FVec Ideal S256x256 .f32} {wp : FVec Ideal S512x256 .f32}
    {A1 A2 : Fin 4 → Fin 4096 → Fin 1024 → ℝ} {P1 : Fin 4 → Fin 4096 → Fin 256 → ℝ} {P2 : Fin 4 → Fin 1024 → Fin 256 → ℝ}
    {Wv : Fin 256 → Fin 256 → ℝ} {Wp : Fin 512 → Fin 256 → ℝ}
    (ha1 : ∀ b n m, a1 (ix3 b n m) = ((A1 b n m : ℝ) : EReal)) (ha2 : ∀ b n m, a2 (ix3 b n m) = ((A2 b n m : ℝ) : EReal))
    (h1 : ∀ b n x, p1 (ix3 b n x) = ((P1 b n x : ℝ) : EReal)) (h2 : ∀ b m x, p2 (ix3 b m x) = ((P2 b m x : ℝ) : EReal))
    (hv : ∀ x y, wv (ix2 x y) = ((Wv x y : ℝ) : EReal)) (hp : ∀ x d, wp (ix2 x d) = ((Wp x d : ℝ) : EReal))
    (b : Fin 4) (n : Fin 4096) (d : Fin 256) :
    project a1 a2 p1 p2 wv wp (ix3 b n d)
      = ((∑ x : Fin 256, P1 b n x * Wp ⟨x.val, by omega⟩ d
          + ∑ x : Fin 256, (∑ m, A1 b n m * A2 b n m * ∑ y, P2 b m y * Wv y x) * Wp ⟨256 + x.val, by omega⟩ d : ℝ) : EReal) := by
  unfold project
  pointwise
  simp only [ha1, ha2, h1, h2, hv, hp, ← EReal.coe_mul, sum_coe, ← EReal.coe_add]

/-! ## The result at an index -/

/-- The reference's result at an index is `referenceRow` of the rows of its arguments, for some number that the softmax
    subtracts. -/
theorem result_at {x1 : FVec Ideal S4x4096x3 .f32} {x2 : FVec Ideal S4x1024x3 .f32} {p1 : FVec Ideal S4x4096x256 .f32}
    {p2 : FVec Ideal S4x1024x256 .f32} {wq wk wv : FVec Ideal S256x256 .f32} {wp : FVec Ideal S512x256 .f32}
    {X1 : Fin 4 → Fin 4096 → Fin 3 → ℝ} {X2 : Fin 4 → Fin 1024 → Fin 3 → ℝ}
    {P1 : Fin 4 → Fin 4096 → Fin 256 → ℝ} {P2 : Fin 4 → Fin 1024 → Fin 256 → ℝ} {Wq Wk Wv : Fin 256 → Fin 256 → ℝ}
    {Wp : Fin 512 → Fin 256 → ℝ}
    (hx1 : ∀ b n c, x1 (ix3 b n c) = ((X1 b n c : ℝ) : EReal)) (hx2 : ∀ b m c, x2 (ix3 b m c) = ((X2 b m c : ℝ) : EReal))
    (h1 : ∀ b n x, p1 (ix3 b n x) = ((P1 b n x : ℝ) : EReal)) (h2 : ∀ b m x, p2 (ix3 b m x) = ((P2 b m x : ℝ) : EReal))
    (hq : ∀ x y, wq (ix2 x y) = ((Wq x y : ℝ) : EReal)) (hk : ∀ x y, wk (ix2 x y) = ((Wk x y : ℝ) : EReal))
    (hv : ∀ x y, wv (ix2 x y) = ((Wv x y : ℝ) : EReal)) (hp : ∀ x d, wp (ix2 x d) = ((Wp x d : ℝ) : EReal))
    (b : Fin 4) (n : Fin 4096) (d : Fin 256) :
    ∃ M : ℝ, result x1 x2 p1 p2 wq wk wv wp (ix3 b n d)
      = ((referenceRow (X1 b n) (X2 b) (P1 b n) (P2 b) Wq Wk Wv (fun x => Wp ⟨x.val, by omega⟩ d)
          (fun x => Wp ⟨256 + x.val, by omega⟩ d) M : ℝ) : EReal) := by
  have hs := score_at h1 h2 hq hk
  choose R hR using fun j => foldMax_at hs j
  refine ⟨R (ix2 b n), ?_⟩
  unfold result
  have hm : ∀ b n, rowMax (foldMax (score p1 p2 wq wk)) (ix2 b n) = ((R (ix2 b n) : ℝ) : EReal) := fun b n =>
    (rowMax_at b n).trans (hR _)
  exact project_at (cutKern_at (kern_at hx1 hx2)) (normalize_at (shiftExp_at (R := fun b n => R (ix2 b n)) hs hm)) h1 h2 hv hp b n d

end Cert.ReferenceIdeal.RefValue

end
-- ==== Proof.Finite.lean ====
/-
  The precondition read back: where `finite_inputs` holds, every entry of every argument is a real number.
-/
module

public import proofs.«01_k».proof.Defs
public import proofs.«01_k».proof.Proof.Gen.Pre_finite_inputs
public import proofs.«01_k».proof.Proof.Consts
public import Idealize.ShloMosaic.Lib.ReduceAll
public import Idealize.ShloMosaic.Lib.Pointwise

@[expose] public section

set_option maxRecDepth 16384

noncomputable section

namespace Cert.Pre_finite_inputs.Real

open Cert.Pre_finite_inputs Cert.Pre_finite_inputs.Gen Cert.BiBlock Idealize.ShloMosaic Idealize.ShloMosaic.TcCoe Idealize.SL.Sem

/-- An array's `all (abs x < inf)` that is 1 makes every entry real. -/
theorem real_of_all {s : Shape} {axes : List (Fin s.rank)} (x : FVec Ideal s .f32) (hb : S_.BroadcastsInDim s ![])
    (h : s.ReducesTo axes S_) (hu : 0 < S_.numel) (init : IVec S_ 1) (j : S_.Idx)
    (e : Host.reduce IntOp.andi (cmpf .olt (Host.absf x) (broadcastInDim s ![] hb (constant S_ .f32 0x7F800000#32))) init h hu j = 1#1)
    (i : s.Idx) : x i = (((x i).toReal : ℝ) : EReal) := by
  haveI : Subsingleton S_.Idx := ⟨fun a b => funext fun k => k.elim0⟩
  have h1 := Host.reduce_andi_all _ _ _ _ _ e i
  refine eq_coe_of_abs_lt ?_
  revert h1
  show Ideal.cmp .olt (max (x i) (-(x i))) (Ideal.ofBits .f32 0x7F800000#32) = 1#1 → _
  rw [ofBits_top]
  intro h1
  by_contra hn
  simp [Ideal.cmp, hn] at h1

/-- Every entry of each of the eight arrays is a real number. -/
def AllReal (x1 : FVec Ideal S4x4096x3 .f32) (x2 : FVec Ideal S4x1024x3 .f32) (p1 : FVec Ideal S4x4096x256 .f32)
    (p2 : FVec Ideal S4x1024x256 .f32) (wq wk wv : FVec Ideal S256x256 .f32) (wp : FVec Ideal S512x256 .f32) : Prop :=
  (∀ i, x1 i = (((x1 i).toReal : ℝ) : EReal)) ∧ (∀ i, x2 i = (((x2 i).toReal : ℝ) : EReal))
  ∧ (∀ i, p1 i = (((p1 i).toReal : ℝ) : EReal)) ∧ (∀ i, p2 i = (((p2 i).toReal : ℝ) : EReal))
  ∧ (∀ i, wq i = (((wq i).toReal : ℝ) : EReal)) ∧ (∀ i, wk i = (((wk i).toReal : ℝ) : EReal))
  ∧ (∀ i, wv i = (((wv i).toReal : ℝ) : EReal)) ∧ (∀ i, wp i = (((wp i).toReal : ℝ) : EReal))

/-- Where the precondition's predicate is 1, every entry of each of the eight arrays is a real number. -/
theorem allReal (x1 : FVec Ideal S4x4096x3 .f32) (x2 : FVec Ideal S4x1024x3 .f32) (p1 : FVec Ideal S4x4096x256 .f32)
    (p2 : FVec Ideal S4x1024x256 .f32) (wq wk wv : FVec Ideal S256x256 .f32) (wp : FVec Ideal S512x256 .f32) (j : S_.Idx)
    (e : fn x1 x2 p1 p2 wq wk wv wp j = 1#1) : AllReal x1 x2 p1 p2 wq wk wv wp := by
  have e' := e
  simp only [fn, fn_part1, fn_part2] at e'
  obtain ⟨e', h7⟩ := IntOp.andi_eq_one.1 e'
  obtain ⟨e', h6⟩ := IntOp.andi_eq_one.1 e'
  obtain ⟨e', h5⟩ := IntOp.andi_eq_one.1 e'
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6, real_of_all _ _ _ _ _ _ h7⟩

end Cert.Pre_finite_inputs.Real

end
-- ==== Proof.Claims.lean ====
/-
  The claims, each assembled from the modules beside this one: the quiescence of the three programs, the one named
  constant, and the equality of the kernel's and the reference's results on finite inputs.
-/
module

public import proofs.«01_k».proof.Defs
public import proofs.«01_k».proof.Proof.Gen.Kernel.Frame
public import proofs.«01_k».proof.Proof.KernelArray
public import proofs.«01_k».proof.Proof.ReferenceValue
public import proofs.«01_k».proof.Proof.Finite
public import Idealize.ShloMosaic.Lib.Quiescent

@[expose] public section

set_option maxRecDepth 16384

noncomputable section

namespace Cert.Proof

open Cert.BiBlock Idealize.ShloMosaic Idealize.ShloMosaic.TcCoe Idealize.SL.Sem

/-- The reference runs, leaves its arguments as they were, and has no semaphore to leave raised. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem reference_quiescent_finite : Cert.quiescent_ReferenceIdeal_pre_finite_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On eight arrays of real entries, the reference's result is the kernel's. -/
theorem result_eq_rows {x1 : FVec Ideal Cert.ReferenceIdeal.S4x4096x3 .f32} {x2 : FVec Ideal Cert.ReferenceIdeal.S4x1024x3 .f32}
    {p1 : FVec Ideal Cert.ReferenceIdeal.S4x4096x256 .f32} {p2 : FVec Ideal Cert.ReferenceIdeal.S4x1024x256 .f32}
    {wq wk wv : FVec Ideal Cert.ReferenceIdeal.S256x256 .f32} {wp : FVec Ideal Cert.ReferenceIdeal.S512x256 .f32}
    {X1 : Fin 4 → Fin 4096 → Fin 3 → ℝ} {X2 : Fin 4 → Fin 1024 → Fin 3 → ℝ}
    {P1 : Fin 4 → Fin 4096 → Fin 256 → ℝ} {P2 : Fin 4 → Fin 1024 → Fin 256 → ℝ} {Wq Wk Wv : Fin 256 → Fin 256 → ℝ}
    {Wp : Fin 512 → Fin 256 → ℝ}
    (hx1 : ∀ b n c, x1 (ix3 b n c) = ((X1 b n c : ℝ) : EReal)) (hx2 : ∀ b m c, x2 (ix3 b m c) = ((X2 b m c : ℝ) : EReal))
    (h1 : ∀ b n x, p1 (ix3 b n x) = ((P1 b n x : ℝ) : EReal)) (h2 : ∀ b m x, p2 (ix3 b m x) = ((P2 b m x : ℝ) : EReal))
    (hq : ∀ x y, wq (ix2 x y) = ((Wq x y : ℝ) : EReal)) (hk : ∀ x y, wk (ix2 x y) = ((Wk x y : ℝ) : EReal))
    (hv : ∀ x y, wv (ix2 x y) = ((Wv x y : ℝ) : EReal)) (hp : ∀ x d, wp (ix2 x d) = ((Wp x d : ℝ) : EReal)) :
    Cert.ReferenceIdeal.RefValue.result x1 x2 p1 p2 wq wk wv wp = Cert.KernelIdeal.Arr.rows X1 X2 P1 P2 Wq Wk Wv Wp := by
  have key : ∀ (b : Fin 4) (n : Fin 4096) (d : Fin 256),
      Cert.ReferenceIdeal.RefValue.result x1 x2 p1 p2 wq wk wv wp (ix3 b n d)
        = Cert.KernelIdeal.Arr.rows X1 X2 P1 P2 Wq Wk Wv Wp (ix3 b n d) := fun b n d => by
    obtain ⟨M, hM⟩ := Cert.ReferenceIdeal.RefValue.result_at hx1 hx2 h1 h2 hq hk hv hp b n d
    rw [hM, ← kernelRow_eq_referenceRow]
    rfl
  funext i
  rw [eq_ix3 i]
  exact key _ _ _

/-- On finite inputs the kernel and the reference end with the same result. -/
theorem algebraic : Cert.algebraic_KernelIdeal_ReferenceIdeal_pre_finite_inputs := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨r0, r1, r2, r3, r4, r5, r6, r7⟩ :=
    Cert.Pre_finite_inputs.Real.allReal _ _ _ _ _ _ _ _ _ (congrFun (hpre c) (Shape.Idx.first (by decide)))
  refine (Cert.ReferenceIdeal.RefValue.res_eq m' c).trans ?_
  rw [a0, a1, a2, a3, a4, a5, a6, a7]
  refine Eq.trans ?_ (Cert.KernelIdeal.Arr.array_eq m c (fun _ _ _ => r0 _) (fun _ _ _ => r1 _) (fun _ _ _ => r2 _)
    (fun _ _ _ => r3 _) (fun _ _ => r4 _) (fun _ _ => r5 _) (fun _ _ => r6 _) (fun _ _ => r7 _)).symm
  exact result_eq_rows (fun _ _ _ => r0 _) (fun _ _ _ => r1 _) (fun _ _ _ => r2 _)
    (fun _ _ _ => r3 _) (fun _ _ => r4 _) (fun _ _ => r5 _) (fun _ _ => r6 _) (fun _ _ => r7 _)

end Cert.Proof

end
-- ==== Proof.lean ====
/-
  The certificate: the conjunction of the claims of `Cert.Claim`, in the order in which it lists them.

  The three programs run without fault, leave their arguments as they were and every semaphore counter at zero; the
  ideal kernel differs from the kernel in one named constant, the cutoff of the distance term; and on finite inputs
  the ideal kernel and the reference end with the same result.
-/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_inputs
public import proofs.«01_k».proof.Proof.Claims

@[expose] public section

noncomputable section

namespace Cert.Proof

open Idealize.ShloMosaic Idealize.SL.Sem Cert.Kernel

/-- The word of the kernel's cutoff is read as minus the logarithm of the threshold, as the ideal kernel names it. -/
theorem cutoff_named : Cert.preserves_Kernel_KernelIdeal :=
  IdealRules.named_const.statement Cert.KernelIdeal.κ "cutoff" .f32 0x403FBA14#32
    ((-(Real.log (13421773 / 268435456)) : ℝ) : EReal) rfl

/-- Every claim of the certificate. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  reference_quiescent,
  reference_quiescent_finite,
  cutoff_named,
  algebraic⟩

end Cert.Proof

end
